-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6400000x2 : Shape := ⟨2, ![6400000, 2]⟩
abbrev S50000x128x2 : Shape := ⟨3, ![50000, 128, 2]⟩
abbrev S50000x2x128 : Shape := ⟨3, ![50000, 2, 128]⟩
abbrev S100000x128 : Shape := ⟨2, ![100000, 128]⟩
abbrev S50000x128 : Shape := ⟨2, ![50000, 128]⟩
abbrev S4000x128 : Shape := ⟨2, ![4000, 128]⟩
abbrev S2000x128 : Shape := ⟨2, ![2000, 128]⟩
abbrev S2000x2x128 : Shape := ⟨3, ![2000, 2, 128]⟩
abbrev S2000x1x128 : Shape := ⟨3, ![2000, 1, 128]⟩
abbrev S6400000 : Shape := ⟨1, ![6400000]⟩

abbrev nBuf : Space → Nat
  | .hbm => 10
  | .vmem => 6
  | .smem => 0
  | _ => 0

abbrev bufTy : (tb : Table) → Fin (tcTables nBuf tb) → BufTy
  | .hbm, ⟨0, _⟩ => ⟨S6400000x2, .f32⟩
  | .hbm, ⟨1, _⟩ => ⟨S6400000x2, .f32⟩
  | .hbm, ⟨2, _⟩ => ⟨S50000x128x2, .f32⟩
  | .hbm, ⟨3, _⟩ => ⟨S50000x2x128, .f32⟩
  | .hbm, ⟨4, _⟩ => ⟨S100000x128, .f32⟩
  | .hbm, ⟨5, _⟩ => ⟨S50000x128x2, .f32⟩
  | .hbm, ⟨6, _⟩ => ⟨S50000x2x128, .f32⟩
  | .hbm, ⟨7, _⟩ => ⟨S100000x128, .f32⟩
  | .hbm, ⟨8, _⟩ => ⟨S50000x128, .i32⟩
  | .hbm, ⟨9, _⟩ => ⟨S6400000, .i32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S2000x128, .i32⟩
  | .local _ .vmem, ⟨5, _⟩ => ⟨S2000x128, .i32⟩
  | _, _ => ⟨S6400000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S6400000x2 : Shape := ⟨2, ![6400000, 2]⟩
abbrev S_ : Shape := ⟨0, ![]⟩
abbrev S6400000 : Shape := ⟨1, ![6400000]⟩

abbrev nBuf : Space → Nat
  | .hbm => 20
  | .vmem => 0
  | .smem => 0
  | _ => 0

abbrev bufTy : (tb : Table) → Fin (tcTables nBuf tb) → BufTy
  | .hbm, ⟨0, _⟩ => ⟨S6400000x2, .f32⟩
  | .hbm, ⟨1, _⟩ => ⟨S6400000x2, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S6400000x2, .f32⟩
  | .hbm, ⟨6, _⟩ => ⟨S6400000x2, .f32⟩
  | .hbm, ⟨7, _⟩ => ⟨S_, .f32⟩
  | .hbm, ⟨8, _⟩ => ⟨S6400000x2, .f32⟩
  | .hbm, ⟨9, _⟩ => ⟨S6400000x2, .f32⟩
  | .hbm, ⟨10, _⟩ => ⟨S6400000x2, .f32⟩
  | .hbm, ⟨11, _⟩ => ⟨S6400000x2, .f32⟩
  | .hbm, ⟨12, _⟩ => ⟨S6400000x2, .f32⟩
  | .hbm, ⟨13, _⟩ => ⟨S6400000x2, .f32⟩
  | .hbm, ⟨14, _⟩ => ⟨S6400000x2, .f32⟩
  | .hbm, ⟨15, _⟩ => ⟨S6400000x2, .i32⟩
  | .hbm, ⟨16, _⟩ => ⟨S_, .f32⟩
  | .hbm, ⟨17, _⟩ => ⟨S_, .i32⟩
  | .hbm, ⟨18, _⟩ => ⟨S6400000, .f32⟩
  | .hbm, ⟨19, _⟩ => ⟨S6400000, .i32⟩
  | _, _ => ⟨S6400000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call1_v0 : Ref sig .tc := ⟨.hbm, 15, rfl⟩
abbrev main_call1_cst : Ref sig .tc := ⟨.hbm, 16, rfl⟩
abbrev main_call1_c : Ref sig .tc := ⟨.hbm, 17, rfl⟩
abbrev main_call1_v1_0 : Ref sig .tc := ⟨.hbm, 18, rfl⟩
abbrev main_v6 : Ref sig .tc := ⟨.hbm, 19, rfl⟩

abbrev nD : Nat := 1
abbrev τ : Topo := Topo.v7x

variable {F : FTy → Type} [FloatOps F]
-- ==== Proof.Sample.lean ====
/- One edge over the extended reals: the perturbed log-probabilities of its two candidates, and which one is sampled. -/
module

public import Idealize.ShloMosaic.PureOps.Ideal
public import Idealize.ShloMosaic.Lib.Pointwise.Tactic

@[expose] public section

noncomputable section

namespace Cert.Sample

open Idealize.ShloMosaic

/-- A log-probability `x` plus the Gumbel noise of the uniform draw `u`, `u` being clipped first into the interval
    between the two printed words. -/
def score (x u : Ideal .f32) : Ideal .f32 :=
  x + -(Ideal.log (-(Ideal.log (min (Ideal.ofBits .f32 0x3F7FFFEF#32) (max (Ideal.ofBits .f32 0x358637BD#32) u)))))

/-- The index of the greater of two scores, the first one's where they are equal. -/
def choice (s₀ s₁ : Ideal .f32) : BitVec 32 := if s₀ < s₁ then 1#32 else 0#32

/-- Edge `n` of the whole argument arrays: its two candidates are the two columns of row `n`. -/
def edge (x u : FVec Ideal (⟨2, ![6400000, 2]⟩ : Shape) .f32) (n : Fin 6400000) : BitVec 32 :=
  choice (score (x (ix2 n 0)) (u (ix2 n 0))) (score (x (ix2 n 1)) (u (ix2 n 1)))

/-- The printed word of positive zero is the number zero. -/
theorem zero_word : Ideal.ofBits .f32 0x00000000#32 = 0 := by simp [Ideal.ofBits, Ideal.ieee]

/-- The printed word of negative infinity is the least extended real. -/
theorem bot_word : Ideal.ofBits .f32 0xFF800000#32 = ⊥ := by simp [Ideal.ofBits, Ideal.ieee]

/-- The kernel's spelling of a score, with two differences in place of the two negations. -/
theorem score_eq_sub (x u : Ideal .f32) :
    x - Ideal.log (Ideal.ofBits .f32 0x00000000#32
      - Ideal.log (min (Ideal.ofBits .f32 0x3F7FFFEF#32) (max (Ideal.ofBits .f32 0x358637BD#32) u))) = score x u := by
  rw [zero_word]
  unfold score
  simp only [sub_eq_add_neg, zero_add]

end Cert.Sample

end
-- ==== Proof.Block.lean ====
/- What the kernel body computes of one block: row `r` of the result compares rows `2 r` and `2 r + 1` of the scores. -/
module

public import proofs.«01_k».proof.Proof.Sample
public import proofs.«01_k».proof.Proof.Gen.KernelIdeal.Skeleton
public import Idealize.ShloMosaic.Lib.Pointwise.Tactic
public import Idealize.ShloMosaic.Lib.Pipeline.ValueKit

@[expose] public section

set_option maxRecDepth 16384

noncomputable section

namespace Cert.KernelIdeal.Block

open Idealize.ShloMosaic Cert.KernelIdeal Cert.KernelIdeal.Gen Cert.Sample

/-- Row `2 r + k` of a block, for a row `r` of its result. -/
def pairRow (r : Fin 2000) (k : Fin 2) : Fin 4000 := ⟨r.val * 2 + k.val, by omega⟩

/-- One row up from an even row the rotation does not wrap round. -/
theorem rotated_row (r : ℕ) (h : r < 2000) : (r * 2 + 4000 - 3999) % 4000 = r * 2 + 1 := by omega

/-- A comparison's bit, widened to a word, is the choice between the two scores. -/
theorem choice_of_bit (s₀ s₁ : Ideal .f32) : BitVec.setWidth 32 (BitVec.ofBool (decide (s₀ < s₁))) = choice s₀ s₁ := by
  unfold choice
  by_cases h : s₀ < s₁ <;> simp [h]

/-- The body's result at row `r`, lane `l` chooses between the scores in rows `2 r` and `2 r + 1` of the same lane. -/
theorem payload (X U : FVec Ideal S4000x128 .f32) (y : S2000x128.Idx) :
    k0_pay1 (F := Ideal) X U y
      = choice (score (X (ix2 (pairRow (y 0) 0) (y 1))) (U (ix2 (pairRow (y 0) 0) (y 1))))
          (score (X (ix2 (pairRow (y 0) 1) (y 1))) (U (ix2 (pairRow (y 0) 1) (y 1)))) := by
  simp only [← score_eq_sub, zero_word]
  rw [← choice_of_bit]
  pointwise [k0_pay1]
  simp only [rotated_row _ (y 0).isLt]
  rfl

end Cert.KernelIdeal.Block

end
-- ==== Proof.Layout.lean ====
/- Where the kernel's operands hold the arguments: the layout made before the launch, and each block's share of it. -/
module

public import proofs.«01_k».proof.Proof.Block
public import proofs.«01_k».proof.Proof.Gen.KernelIdeal.Frame
public import Idealize.ShloMosaic.Lib.Claim

@[expose] public section

set_option maxRecDepth 16384

noncomputable section

namespace Cert.KernelIdeal.Layout

open Idealize.ShloMosaic Cert.KernelIdeal Cert.KernelIdeal.Gen

/-- The edge whose entries stand in row pair `g`, lane `l`. -/
def edgeOf (g : Fin 50000) (l : Fin 128) : Fin 6400000 := ⟨g.val * 128 + l.val, by omega⟩

/-- An argument as the kernel's operand holds it: row `2 g + k`, lane `l` is entry `k` of edge `128 g + l`. -/
def laidOut (a : FVec Ideal S6400000x2 .f32) : FVec Ideal S100000x128 .f32 := fun p =>
  a (ix2 (edgeOf ⟨(p 0).val / 2, Nat.div_lt_of_lt_mul (p 0).isLt⟩ (p 1)) (⟨(p 0).val % 2, Nat.mod_lt _ Nat.two_pos⟩ : Fin 2))

/-- Grouping the edges by 128, exchanging entry and lane and joining groups with entries gives that layout. -/
theorem movement (a : FVec Ideal S6400000x2 .f32) (h₁ : S6400000x2.ShapeCasts S50000x128x2)
    (h₂ : S50000x128x2.Transposes [0, 2, 1] S50000x2x128) (h₃ : S50000x2x128.ShapeCasts S100000x128) :
    shapeCast S100000x128 (transpose S50000x2x128 [0, 2, 1] (shapeCast S50000x128x2 a h₁) h₂) h₃ = laidOut a := by
  funext p
  pointwise []
  rfl

variable (m : (ℓ : Loc nD τ sig) → Buf (Elt Ideal) ℓ) (c : Dev nD)

/-- The first operand at the launch is the first argument laid out. -/
theorem operand0 : V m c main_v2 = laidOut (m ((c.tc : Thread nD τ).loc main_arg0)) := by
  show StableHlo.after hostOps0 (fun b => m (c, b)) (Proc.devRef .tc main_v2) = _
  after_results
  exact movement _ _ _ _

/-- The second operand at the launch is the second argument laid out. -/
theorem operand1 : V m c main_v5 = laidOut (m ((c.tc : Thread nD τ).loc main_arg1)) := by
  show StableHlo.after hostOps0 (fun b => m (c, b)) (Proc.devRef .tc main_v5) = _
  after_results
  exact movement _ _ _ _

/-- At grid point `t` every window stands at block `t` of its array's rows. -/
theorem at_point : ∀ t : Fin cfg0.N,
    win0_0.index t = ![t.val, 0] ∧ win0_1.index t = ![t.val, 0] ∧ win0_2.index t = ![t.val, 0] :=
  (by decide +kernel : ∀ t : Fin grid0.N, _)

/-- The grid has 25 points. -/
theorem point_lt (t : Fin cfg0.N) : t.val < 25 := t.isLt

/-- The row of the whole result that row `r` of block `t` is; it is also the row pair the body reads for it. -/
def resultRow (t : Fin cfg0.N) (r : Fin 2000) : Fin 50000 := ⟨t.val * 2000 + r.val, by have := point_lt t; omega⟩

/-- The operand row that row `2 r + k` of block `t` is. -/
def operandRow (t : Fin cfg0.N) (r : Fin 2000) (k : Fin 2) : Fin 100000 :=
  ⟨t.val * 4000 + (r.val * 2 + k.val), by have := point_lt t; omega⟩

/-- That operand row holds entry `k` of the edges of the result's row. -/
theorem laidOut_operandRow (a : FVec Ideal S6400000x2 .f32) (t : Fin cfg0.N) (r : Fin 2000) (k : Fin 2) (l : Fin 128) :
    laidOut a (ix2 (operandRow t r k) l) = a (ix2 (edgeOf (resultRow t r) l) k) := by
  have hdiv : (t.val * 4000 + (r.val * 2 + k.val)) / 2 = t.val * 2000 + r.val := by omega
  have hmod : (t.val * 4000 + (r.val * 2 + k.val)) % 2 = k.val := by omega
  refine congrArg a (congrArg₂ ix2 (Fin.ext ?_) (Fin.ext hmod))
  exact congrArg (fun g : ℕ => g * 128 + l.val) hdiv

/-- What the body reads of the first argument. -/
theorem block0 (t : Fin cfg0.N) (r : Fin 2000) (k : Fin 2) (l : Fin 128) :
    iblk m c 0 t (ix2 (Block.pairRow r k) l) = m ((c.tc : Thread nD τ).loc main_arg0) (ix2 (edgeOf (resultRow t r) l) k) := by
  have h : iblk m c 0 t (ix2 (Block.pairRow r k) l) = V m c main_v2 (ix2 (operandRow t r k) l) := by
    blk_ext [iblk, at_point t, Block.pairRow, operandRow]
  rw [h, operand0]
  exact laidOut_operandRow _ t r k l

/-- What the body reads of the second argument. -/
theorem block1 (t : Fin cfg0.N) (r : Fin 2000) (k : Fin 2) (l : Fin 128) :
    iblk m c 1 t (ix2 (Block.pairRow r k) l) = m ((c.tc : Thread nD τ).loc main_arg1) (ix2 (edgeOf (resultRow t r) l) k) := by
  have h : iblk m c 1 t (ix2 (Block.pairRow r k) l) = V m c main_v5 (ix2 (operandRow t r k) l) := by
    blk_ext [iblk, at_point t, Block.pairRow, operandRow]
  rw [h, operand1]
  exact laidOut_operandRow _ t r k l

/-- Where the result's block `t` stands in the whole result. -/
theorem place (t : Fin cfg0.N) (y : S2000x128.Idx) :
    (((View.whole main_v6).slice (win0_2.rect t)).emb y : S50000x128.Idx) = ix2 (resultRow t (y 0)) (y 1) := by
  blk_ext [at_point t, resultRow]

end Cert.KernelIdeal.Layout

end
-- ==== Proof.KernelValue.lean ====
/- What the kernel leaves in its result: edge by edge, the choice between the two candidates. -/
module

public import proofs.«01_k».proof.Proof.Layout

@[expose] public section

set_option maxRecDepth 16384

noncomputable section

namespace Cert.KernelIdeal.Value

open Idealize.ShloMosaic Idealize.SL.Sem Cert.KernelIdeal Cert.KernelIdeal.Gen Cert.KernelIdeal.Layout Cert.Sample

/-- The samples in rows of 128 edges. -/
def rows (x u : FVec Ideal S6400000x2 .f32) : IVec S50000x128 32 := fun q => edge x u (edgeOf (q 0) (q 1))

/-- Flattening the rows gives the samples in order. -/
theorem rows_flat (x u : FVec Ideal S6400000x2 .f32) (h : S50000x128.ShapeCasts S6400000) :
    shapeCast S6400000 (rows x u) h = fun j => edge x u (j 0) := by
  funext j
  pointwise []
  exact congrArg (edge x u) (Fin.ext (Nat.div_add_mod' (j 0).val 128))

variable (m : (ℓ : Loc nD τ sig) → Buf (Elt Ideal) ℓ) (ρ : Dev nD → PrngReg) (c : Dev nD)

/-- What the body makes of block `t`: the samples of its rows' edges. -/
theorem block (t : Fin cfg0.N) (y : S2000x128.Idx) : k0_pay1 (F := Ideal) (iblk m c 0 t) (iblk m c 1 t) y
    = rows (m ((c.tc : Thread nD τ).loc main_arg0)) (m ((c.tc : Thread nD τ).loc main_arg1)) (ix2 (resultRow t (y 0)) (y 1)) := by
  refine (Block.payload _ _ y).trans (congrArg₂ choice (congrArg₂ score ?_ ?_) (congrArg₂ score ?_ ?_))
  · exact block0 m c t (y 0) 0 (y 1)
  · exact block1 m c t (y 0) 0 (y 1)
  · exact block0 m c t (y 0) 1 (y 1)
  · exact block1 m c t (y 0) 1 (y 1)

/-- The array that the launch writes. -/
theorem array : (dats m 0 c).arrAt 2 cfg0.N
    = rows (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  exact (block m c t y).trans (congrArg (rows _ _) (place t y)).symm

/-- The result after the closing reshape. -/
theorem result : Pipeline.afterTail₀ cfgs (dats m) 0 (V0 m) [hostOps1] c main_v7
    = (fun j => edge (m ((c.tc : Thread nD τ).loc main_arg0)) (m ((c.tc : Thread nD τ).loc main_arg1)) (j 0) : IVec S6400000 32) := by
  unfold Pipeline.afterTail₀
  show StableHlo.after hostOps1 _ (Proc.devRef .tc main_v7) = _
  after_results
  rw [show Pipeline.withArrays (cfgs 0).spec c (V0 m c) (fun w => (dats m 0 c).arrAt w (cfgs 0).N) (Proc.devRef .tc main_v6)
      = rows (m ((c.tc : Thread nD τ).loc main_arg0)) (m ((c.tc : Thread nD τ).loc main_arg1)) from
    (Pipeline.withArrays_arr spec0 (by decide) c (V0 m c) _ 2).trans (array m c)]
  exact rows_flat _ _ _

/-- The kernel program runs; its result holds every edge's sample and its arguments are unchanged. -/
theorem run : θ_run (defs (F := Ideal)) (onTc (τ := τ) (main (F := Ideal))) ⟨m, fun _ => 0, ρ⟩ fun r => ∀ c : Dev nD,
    r.2.mem ((c.tc : Thread nD τ).loc main_v7)
        = (fun j => edge (m ((c.tc : Thread nD τ).loc main_arg0)) (m ((c.tc : Thread nD τ).loc main_arg1)) (j 0) : IVec S6400000 32)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨?_, ?_, ?_⟩) (run_main m ρ)
  · exact ((h c).2 main_v7 (Pipeline.mem_restRefs_of main_v7 (by decide) (by decide))).trans (result m c)
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)

end Cert.KernelIdeal.Value

end
-- ==== Proof.Argmax.lean ====
/- The reference's arg-max over an axis of two entries, as the choice between the two. -/
module

public import proofs.«01_k».proof.Proof.Sample
public import proofs.«01_k».proof.Proof.Gen.ReferenceIdeal
public import Idealize.ShloMosaic.Lib.Pointwise.Reduce
public import Idealize.ShloMosaic.PureOps.Ideal.Laws

@[expose] public section

noncomputable section

namespace Cert.ReferenceIdeal.Argmax

open Idealize.ShloMosaic Cert.ReferenceIdeal Cert.ReferenceIdeal.Gen Cert.Sample

/-- The cells of an array of two columns that a reduction of the columns folds into result `j` are, in order, the two
    cells of row `j`. -/
theorem two_cells {n : ℕ} (h : (⟨2, ![n, 2]⟩ : Shape).ReducesTo [1] (⟨1, ![n]⟩ : Shape)) (j : (⟨1, ![n]⟩ : Shape).Idx) :
    ((List.finRange (⟨2, ![n, 2]⟩ : Shape).numel).filter fun p => h.drop ((⟨2, ![n, 2]⟩ : Shape).rowMajor.symm p) = j)
      = [(⟨2, ![n, 2]⟩ : Shape).rowMajor (ix2 (j 0) 0), (⟨2, ![n, 2]⟩ : Shape).rowMajor (ix2 (j 0) 1)] := by
  have lt01 : (⟨2, ![n, 2]⟩ : Shape).rowMajor (ix2 (j 0) 0) < (⟨2, ![n, 2]⟩ : Shape).rowMajor (ix2 (j 0) 1) := by
    rw [Fin.lt_def, Shape.rowMajor_val_two, Shape.rowMajor_val_two]
    exact Nat.add_lt_add_left Nat.zero_lt_one _
  refine List.Pairwise.eq_of_mem_iff ((List.pairwise_lt_finRange _).filter _) (List.pairwise_pair.2 lt01) fun p => ?_
  simp only [List.mem_filter, List.mem_finRange, true_and, decide_eq_true_eq, List.mem_cons, List.not_mem_nil, or_false]
  rw [h.fiber_r2_a1, Fin.exists_fin_two, Equiv.eq_symm_apply, Equiv.eq_symm_apply]
  exact or_congr eq_comm eq_comm

/-- A reduction of two operands over an axis of two entries meets the two pairs in order. -/
theorem fold_two {n : ℕ} {α β : Type} (f : α × β → α × β → α × β) (x : (⟨2, ![n, 2]⟩ : Shape).Idx → α)
    (y : (⟨2, ![n, 2]⟩ : Shape).Idx → β) {u : Shape} (a : u.Idx → α) (b : u.Idx → β)
    (h : (⟨2, ![n, 2]⟩ : Shape).ReducesTo [1] (⟨1, ![n]⟩ : Shape)) (hu : 0 < u.numel) (j : (⟨1, ![n]⟩ : Shape).Idx) :
    Host.reduce2 f x y a b h hu j
      = f (f (a (Shape.Idx.first hu), b (Shape.Idx.first hu)) (x (ix2 (j 0) 0), y (ix2 (j 0) 0))) (x (ix2 (j 0) 1), y (ix2 (j 0) 1)) := by
  rw [Host.reduce2_eq_foldl_fiber, Host.argReduceFiber, two_cells]
  simp only [List.map_cons, List.map_nil, List.foldl_cons, List.foldl_nil, Equiv.symm_apply_apply]

/-- One step of the arg-max over the extended reals: the entry held so far stays where it is the greater; its index stays
    also where the two are equal and it is the lesser index. -/
theorem step (s₀ s₁ : EReal) (k₀ k₁ : BitVec 32) :
    reducer_argmax_f32_i32 (F := Ideal) (s₀, k₀) (s₁, k₁)
      = (if s₁ < s₀ then s₀ else s₁, if s₁ < s₀ ∨ s₀ = s₁ ∧ k₀.slt k₁ then k₀ else k₁) := by
  unfold reducer_argmax_f32_i32
  have one_iff : ∀ b : Bool, BitVec.ofBool b = 1 ↔ b = true := by decide
  simp only [Ideal.cmpf_def, Ideal.cmp, IntOp.cmpi, IntOp.ori, IntOp.andi, Scalar.select, BitVec.ofBool_or_ofBool,
    BitVec.ofBool_and_ofBool, one_iff, Bool.or_eq_true, Bool.and_eq_true, decide_eq_true_eq, ne_eq, not_true, or_false]

/-- The first step of the arg-max leaves the least value for the first entry. -/
theorem first_step (s : EReal) : reducer_argmax_f32_i32 (F := Ideal) ((⊥ : EReal), 0#32) (s, 0#32) = (s, 0#32) := by
  rw [step, if_neg not_lt_bot, ite_self]

/-- The second step keeps the first entry's index unless the second entry is greater. -/
theorem second_step (s₀ s₁ : EReal) :
    (reducer_argmax_f32_i32 (F := Ideal) (s₀, 0#32) (s₁, 1#32)).2 = choice s₀ s₁ := by
  rw [step]
  unfold choice
  rcases lt_trichotomy s₀ s₁ with h | h | h
  · simp [h, h.not_gt, h.ne]
  · simp [h]
  · simp [h, h.not_gt]

/-- The arg-max of row `j` of an array of two columns is the choice between its two entries. -/
theorem argmax_row (v : FVec Ideal S6400000x2 .f32) (h : S6400000x2.ReducesTo [1] S6400000) (hu : 0 < S_.numel)
    (j : S6400000.Idx) :
    (Host.argReduce (reducer_argmax_f32_i32 (F := Ideal)) v (iotaInDim S6400000x2 32 1) (constant S_ .f32 0xFF800000#32)
      (constantI S_ 32 0#32) h hu j).2 = choice (v (ix2 (j 0) 0)) (v (ix2 (j 0) 1)) := by
  rw [Ideal.argReduce_eq_reduce2]
  refine (congrArg Prod.snd (fold_two _ _ _ _ _ h hu j)).trans ?_
  refine Eq.trans ?_ (second_step (v (ix2 (j 0) 0)) (v (ix2 (j 0) 1)))
  rw [← first_step (v (ix2 (j 0) 0)), ← bot_word]
  rfl

end Cert.ReferenceIdeal.Argmax

end
-- ==== Proof.RefValue.lean ====
/- What the reference leaves in its result: edge by edge, the choice between the two candidates. -/
module

public import proofs.«01_k».proof.Proof.Argmax
public import Idealize.ShloMosaic.Lib.Claim
public import Idealize.ShloMosaic.Lib.Quiescent
public import Idealize.ShloMosaic.Adequacy
public import Idealize.ShloMosaic.Init

@[expose] public section

noncomputable section

namespace Cert.ReferenceIdeal.Value

open Idealize.ShloMosaic Cert.ReferenceIdeal Cert.ReferenceIdeal.Gen Cert.Sample

/-- The reference runs; its result holds every edge's sample and its arguments are unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v6)
          = (fun j => edge (m ((c.tc : Thread nD τ).loc main_arg0)) (m ((c.tc : Thread nD τ).loc main_arg1)) (j 0) : IVec S6400000 32)
        ∧ r.2.mem ((c.tc : Thread nD τ).loc main_arg0) = m ((c.tc : Thread nD τ).loc main_arg0)
        ∧ r.2.mem ((c.tc : Thread nD τ).loc main_arg1) = m ((c.tc : Thread nD τ).loc main_arg1) := by
  hlo_run
  simp only [StableHlo.TRef.toBuf, StableHlo.TRef.ofBuf, cast_eq]
  funext j
  rw [Argmax.argmax_row]
  rfl

/-- The reference's frame: its arguments are unchanged, and it has no semaphore to leave signalled. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  θ_run_mono (run m ρ) fun r h => ⟨fun c => (h c).2, sem_eq_zero_of_no_sems rfl r.2⟩

end Cert.ReferenceIdeal.Value

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.KernelValue
public import proofs.«01_k».proof.Proof.RefValue

@[expose] public section

noncomputable section

namespace Cert.Proof

open Idealize.ShloMosaic

/-- Both programs end with every edge's sample: the shared result is the kernel's, and the reference's is the same function
    of arguments that agree. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨_, Cert.KernelIdeal.Value.run m g, θ_run_mono (Cert.ReferenceIdeal.Value.run m' g') fun r h c => ⟨?_, (h c).2⟩⟩
  refine (h c).1.trans ?_
  rw [(hagree c).1, (hagree c).2]

theorem claim : Cert.Claim :=
  ⟨Cert.Kernel.Gen.facts, Cert.KernelIdeal.Gen.facts, Cert.ReferenceIdeal.Gen.facts,
    fun m ρ _ => Cert.Kernel.Gen.frame m ρ,
    fun m ρ _ => Cert.KernelIdeal.Gen.frame m ρ,
    fun m ρ _ => Cert.ReferenceIdeal.Value.frame m ρ,
    trivial,
    algebraic⟩

end Cert.Proof

end
